-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x32x64x64x64 : Shape := ⟨5, ![4, 32, 64, 64, 64]⟩
abbrev S_ : Shape := ⟨0, ![]⟩

class Facts : Prop where
  bcast_S_S4x32x64x64x64 : S_.BroadcastsInDim S4x32x64x64x64 (![] : Fin 0 → Fin S4x32x64x64x64.rank)
  reducesTo_S4x32x64x64x64_S_d0_1_2_3_4 : S4x32x64x64x64.ReducesTo [0, 1, 2, 3, 4] S_
  h_S_ : 0 < S_.numel

variable [Facts]

def fn {F : FTy → Type} [FloatOps F] (main_arg0 : FVec F S4x32x64x64x64 .f32) : IVec S_ 1 :=
  let main_v0 : FVec F S4x32x64x64x64 .f32 := Host.absf main_arg0
  let main_cst : FVec F S_ .f32 := constant S_ .f32 0x7F800000#32
  let main_v1 : FVec F S4x32x64x64x64 .f32 := broadcastInDim S4x32x64x64x64 ![] bcast_S_S4x32x64x64x64 main_cst
  let main_v2 : IVec S4x32x64x64x64 1 := cmpf .olt main_v0 main_v1
  let main_c : IVec S_ 1 := constantI S_ 1 1#1
  let main_v3 : IVec S_ 1 := (fun x v => Host.reduce IntOp.andi x v reducesTo_S4x32x64x64x64_S_d0_1_2_3_4 h_S_) main_v2 main_c
  main_v3
-- ==== Kernel.lean ====
abbrev S4x32x64x64x64 : Shape := ⟨5, ![4, 32, 64, 64, 64]⟩
abbrev S64 : Shape := ⟨1, ![64]⟩
abbrev S64x1 : Shape := ⟨2, ![64, 1]⟩
abbrev S_ : Shape := ⟨0, ![]⟩
abbrev S1x64 : Shape := ⟨2, ![1, 64]⟩
abbrev S64x64 : Shape := ⟨2, ![64, 64]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x32x1 : Shape := ⟨3, ![32, 32, 1]⟩
abbrev S32x64 : Shape := ⟨2, ![32, 64]⟩
abbrev S32x1x64 : Shape := ⟨3, ![32, 1, 64]⟩
abbrev S32x32x64 : Shape := ⟨3, ![32, 32, 64]⟩
abbrev S64x32 : Shape := ⟨2, ![64, 32]⟩
abbrev S128x32x32x32 : Shape := ⟨4, ![128, 32, 32, 32]⟩
abbrev S1x8x64x64x64 : Shape := ⟨5, ![1, 8, 64, 64, 64]⟩
abbrev S8x32x32x32 : Shape := ⟨4, ![8, 32, 32, 32]⟩
abbrev S8x64x64x64 : Shape := ⟨4, ![8, 64, 64, 64]⟩
abbrev S4x64x64x64 : Shape := ⟨4, ![4, 64, 64, 64]⟩
abbrev S16384x64 : Shape := ⟨2, ![16384, 64]⟩
abbrev S16384x32 : Shape := ⟨2, ![16384, 32]⟩
abbrev S256x64x32 : Shape := ⟨3, ![256, 64, 32]⟩
abbrev S256x32x64 : Shape := ⟨3, ![256, 32, 64]⟩
abbrev S8192x64 : Shape := ⟨2, ![8192, 64]⟩
abbrev S8192x32 : Shape := ⟨2, ![8192, 32]⟩
abbrev S256x32x32 : Shape := ⟨3, ![256, 32, 32]⟩
abbrev S64x32x32 : Shape := ⟨3, ![64, 32, 32]⟩
abbrev S64x1024 : Shape := ⟨2, ![64, 1024]⟩
abbrev S32x1024 : Shape := ⟨2, ![32, 1024]⟩
abbrev S32x32x32 : Shape := ⟨3, ![32, 32, 32]⟩
abbrev S1x32x32x32 : Shape := ⟨4, ![1, 32, 32, 32]⟩
abbrev S4x32x32x32x32 : Shape := ⟨5, ![4, 32, 32, 32, 32]⟩

abbrev nBuf : Space → Nat
  | .hbm => 78
  | .vmem => 6
  | .smem => 0
  | _ => 0

abbrev bufTy : (tb : Table) → Fin (tcTables nBuf tb) → BufTy
  | .hbm, ⟨0, _⟩ => ⟨S4x32x64x64x64, .f32⟩
  | .hbm, ⟨1, _⟩ => ⟨S64, .f32⟩
  | .hbm, ⟨2, _⟩ => ⟨S64x1, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S1x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S_, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S_, .f32⟩
  | .hbm, ⟨21, _⟩ => ⟨S64x1, .f32⟩
  | .hbm, ⟨22, _⟩ => ⟨S64x1, .i1⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64x1, .f32⟩
  | .hbm, ⟨28, _⟩ => ⟨S64x1, .f32⟩
  | .hbm, ⟨29, _⟩ => ⟨S64x1, .f32⟩
  | .hbm, ⟨30, _⟩ => ⟨S64x1, .f32⟩
  | .hbm, ⟨31, _⟩ => ⟨S64x64, .f32⟩
  | .hbm, ⟨32, _⟩ => ⟨S64x64, .f32⟩
  | .hbm, ⟨33, _⟩ => ⟨S32, .f32⟩
  | .hbm, ⟨34, _⟩ => ⟨S32x1, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S1x32, .f32⟩
  | .hbm, ⟨45, _⟩ => ⟨S32x32, .f32⟩
  | .hbm, ⟨46, _⟩ => ⟨S32x32, .f32⟩
  | .hbm, ⟨47, _⟩ => ⟨S32x32, .f32⟩
  | .hbm, ⟨48, _⟩ => ⟨S_, .f32⟩
  | .hbm, ⟨49, _⟩ => ⟨S32x32, .f32⟩
  | .hbm, ⟨50, _⟩ => ⟨S32x32, .f32⟩
  | .hbm, ⟨51, _⟩ => ⟨S32x32, .f32⟩
  | .hbm, ⟨52, _⟩ => ⟨S_, .f32⟩
  | .hbm, ⟨53, _⟩ => ⟨S32x1, .f32⟩
  | .hbm, ⟨54, _⟩ => ⟨S32x1, .i1⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S32x1, .f32⟩
  | .hbm, ⟨60, _⟩ => ⟨S32x1, .f32⟩
  | .hbm, ⟨61, _⟩ => ⟨S32x1, .f32⟩
  | .hbm, ⟨62, _⟩ => ⟨S32x1, .f32⟩
  | .hbm, ⟨63, _⟩ => ⟨S32x32, .f32⟩
  | .hbm, ⟨64, _⟩ => ⟨S32x32, .f32⟩
  | .hbm, ⟨65, _⟩ => ⟨S32x32x1, .f32⟩
  | .hbm, ⟨66, _⟩ => ⟨S32x64, .f32⟩
  | .hbm, ⟨67, _⟩ => ⟨S32x1x64, .f32⟩
  | .hbm, ⟨68, _⟩ => ⟨S32x32x64, .f32⟩
  | .hbm, ⟨69, _⟩ => ⟨S32x32x64, .f32⟩
  | .hbm, ⟨70, _⟩ => ⟨S32x32x64, .f32⟩
  | .hbm, ⟨71, _⟩ => ⟨S_, .f32⟩
  | .hbm, ⟨72, _⟩ => ⟨S32x64, .f32⟩
  | .hbm, ⟨73, _⟩ => ⟨S32x64, .bf16⟩
  | .hbm, ⟨74, _⟩ => ⟨S64x32, .f32⟩
  | .hbm, ⟨75, _⟩ => ⟨S64x32, .bf16⟩
  | .hbm, ⟨76, _⟩ => ⟨S128x32x32x32, .f32⟩
  | .hbm, ⟨77, _⟩ => ⟨S4x32x32x32x32, .f32⟩
  | .local _ .vmem, ⟨0, _⟩ => ⟨S1x8x64x64x64, .f32⟩
  | .local _ .vmem, ⟨1, _⟩ => ⟨S1x8x64x64x64, .f32⟩
  | .local _ .vmem, ⟨2, _⟩ => ⟨S32x64, .bf16⟩
  | .local _ .vmem, ⟨3, _⟩ => ⟨S64x32, .bf16⟩
  | .local _ .vmem, ⟨4, _⟩ => ⟨S8x32x32x32, .f32⟩
  | .local _ .vmem, ⟨5, _⟩ => ⟨S8x32x32x32, .f32⟩
  | _, _ => ⟨S4x32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_cst_5 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_call1_v0 : Ref sig .tc := ⟨.hbm, 59, rfl⟩
abbrev main_call1_v1 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, v26.toNat, c0_i32_10.toNat, c0_i32_11.toNat, c0_i32_12.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x32x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x32x64x64x64 : Shape := ⟨5, ![4, 32, 64, 64, 64]⟩
abbrev S64 : Shape := ⟨1, ![64]⟩
abbrev S64x1 : Shape := ⟨2, ![64, 1]⟩
abbrev S_ : Shape := ⟨0, ![]⟩
abbrev S1x64 : Shape := ⟨2, ![1, 64]⟩
abbrev S64x64 : Shape := ⟨2, ![64, 64]⟩
abbrev S4x32x32x32x32 : Shape := ⟨5, ![4, 32, 32, 32, 32]⟩
abbrev S32 : Shape := ⟨1, ![32]⟩
abbrev S32x1 : Shape := ⟨2, ![32, 1]⟩
abbrev S1x32 : Shape := ⟨2, ![1, 32]⟩
abbrev S32x32 : Shape := ⟨2, ![32, 32]⟩

abbrev nBuf : Space → Nat
  | .hbm => 210
  | .vmem => 0
  | .smem => 0
  | _ => 0

abbrev hbmTy0_0 (i : Nat) : BufTy := match i % 128 with
  | 0 => ⟨S4x32x64x64x64, .f32⟩
  | 1 => ⟨S64, .f32⟩
  | 2 => ⟨S64x1, .f32⟩
  | 3 => ⟨S_, .f32⟩
  | 4 => ⟨S64, .f32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S1x64, .f32⟩
  | 13 => ⟨S64x64, .f32⟩
  | 14 => ⟨S64x64, .f32⟩
  | 15 => ⟨S64x64, .f32⟩
  | 16 => ⟨S_, .f32⟩
  | 17 => ⟨S64x64, .f32⟩
  | 18 => ⟨S64x64, .f32⟩
  | 19 => ⟨S64x64, .f32⟩
  | 20 => ⟨S_, .f32⟩
  | 21 => ⟨S64x1, .f32⟩
  | 22 => ⟨S64x1, .i1⟩
  | 23 => ⟨S_, .f32⟩
  | 24 => ⟨S_, .f32⟩
  | 25 => ⟨S_, .f32⟩
  | 26 => ⟨S_, .f32⟩
  | 27 => ⟨S64x1, .f32⟩
  | 28 => ⟨S64x1, .f32⟩
  | 29 => ⟨S64x1, .f32⟩
  | 30 => ⟨S64x1, .f32⟩
  | 31 => ⟨S64x64, .f32⟩
  | 32 => ⟨S64x64, .f32⟩
  | 33 => ⟨S64, .f32⟩
  | 34 => ⟨S64x1, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S_, .f32⟩
  | 42 => ⟨S64, .f32⟩
  | 43 => ⟨S64, .f32⟩
  | 44 => ⟨S1x64, .f32⟩
  | 45 => ⟨S64x64, .f32⟩
  | 46 => ⟨S64x64, .f32⟩
  | 47 => ⟨S64x64, .f32⟩
  | 48 => ⟨S_, .f32⟩
  | 49 => ⟨S64x64, .f32⟩
  | 50 => ⟨S64x64, .f32⟩
  | 51 => ⟨S64x64, .f32⟩
  | 52 => ⟨S_, .f32⟩
  | 53 => ⟨S64x1, .f32⟩
  | 54 => ⟨S64x1, .i1⟩
  | 55 => ⟨S_, .f32⟩
  | 56 => ⟨S_, .f32⟩
  | 57 => ⟨S_, .f32⟩
  | 58 => ⟨S_, .f32⟩
  | 59 => ⟨S64x1, .f32⟩
  | 60 => ⟨S64x1, .f32⟩
  | 61 => ⟨S64x1, .f32⟩
  | 62 => ⟨S64x1, .f32⟩
  | 63 => ⟨S64x64, .f32⟩
  | 64 => ⟨S64x64, .f32⟩
  | 65 => ⟨S64, .f32⟩
  | 66 => ⟨S64x1, .f32⟩
  | 67 => ⟨S_, .f32⟩
  | 68 => ⟨S64, .f32⟩
  | 69 => ⟨S64, .f32⟩
  | 70 => ⟨S_, .f32⟩
  | 71 => ⟨S64, .f32⟩
  | 72 => ⟨S64, .f32⟩
  | 73 => ⟨S_, .f32⟩
  | 74 => ⟨S64, .f32⟩
  | 75 => ⟨S64, .f32⟩
  | 76 => ⟨S1x64, .f32⟩
  | 77 => ⟨S64x64, .f32⟩
  | 78 => ⟨S64x64, .f32⟩
  | 79 => ⟨S64x64, .f32⟩
  | 80 => ⟨S_, .f32⟩
  | 81 => ⟨S64x64, .f32⟩
  | 82 => ⟨S64x64, .f32⟩
  | 83 => ⟨S64x64, .f32⟩
  | 84 => ⟨S_, .f32⟩
  | 85 => ⟨S64x1, .f32⟩
  | 86 => ⟨S64x1, .i1⟩
  | 87 => ⟨S_, .f32⟩
  | 88 => ⟨S_, .f32⟩
  | 89 => ⟨S_, .f32⟩
  | 90 => ⟨S_, .f32⟩
  | 91 => ⟨S64x1, .f32⟩
  | 92 => ⟨S64x1, .f32⟩
  | 93 => ⟨S64x1, .f32⟩
  | 94 => ⟨S64x1, .f32⟩
  | 95 => ⟨S64x64, .f32⟩
  | 96 => ⟨S64x64, .f32⟩
  | 97 => ⟨S4x32x64x64x64, .f32⟩
  | 98 => ⟨S4x32x64x64x64, .f32⟩
  | 99 => ⟨S4x32x64x64x64, .f32⟩
  | 100 => ⟨S4x32x64x64x64, .f32⟩
  | 101 => ⟨S4x32x64x64x64, .f32⟩
  | 102 => ⟨S4x32x32x32x32, .f32⟩
  | 103 => ⟨S_, .i32⟩
  | 104 => ⟨S_, .f32⟩
  | 105 => ⟨S4x32x32x32x32, .f32⟩
  | 106 => ⟨S32, .f32⟩
  | 107 => ⟨S32x1, .f32⟩
  | 108 => ⟨S_, .f32⟩
  | 109 => ⟨S32, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S1x32, .f32⟩
  | 118 => ⟨S32x32, .f32⟩
  | 119 => ⟨S32x32, .f32⟩
  | 120 => ⟨S32x32, .f32⟩
  | 121 => ⟨S_, .f32⟩
  | 122 => ⟨S32x32, .f32⟩
  | 123 => ⟨S32x32, .f32⟩
  | 124 => ⟨S32x32, .f32⟩
  | 125 => ⟨S_, .f32⟩
  | 126 => ⟨S32x1, .f32⟩
  | 127 => ⟨S32x1, .i1⟩
  | _ => ⟨S4x32x64x64x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S32x1, .f32⟩
  | 5 => ⟨S32x1, .f32⟩
  | 6 => ⟨S32x1, .f32⟩
  | 7 => ⟨S32x1, .f32⟩
  | 8 => ⟨S32x32, .f32⟩
  | 9 => ⟨S32x32, .f32⟩
  | 10 => ⟨S32x32, .f32⟩
  | 11 => ⟨S32, .f32⟩
  | 12 => ⟨S32x1, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S1x32, .f32⟩
  | 23 => ⟨S32x32, .f32⟩
  | 24 => ⟨S32x32, .f32⟩
  | 25 => ⟨S32x32, .f32⟩
  | 26 => ⟨S_, .f32⟩
  | 27 => ⟨S32x32, .f32⟩
  | 28 => ⟨S32x32, .f32⟩
  | 29 => ⟨S32x32, .f32⟩
  | 30 => ⟨S_, .f32⟩
  | 31 => ⟨S32x1, .f32⟩
  | 32 => ⟨S32x1, .i1⟩
  | 33 => ⟨S_, .f32⟩
  | 34 => ⟨S_, .f32⟩
  | 35 => ⟨S_, .f32⟩
  | 36 => ⟨S_, .f32⟩
  | 37 => ⟨S32x1, .f32⟩
  | 38 => ⟨S32x1, .f32⟩
  | 39 => ⟨S32x1, .f32⟩
  | 40 => ⟨S32x1, .f32⟩
  | 41 => ⟨S32x32, .f32⟩
  | 42 => ⟨S32x32, .f32⟩
  | 43 => ⟨S32x32, .f32⟩
  | 44 => ⟨S32, .f32⟩
  | 45 => ⟨S32x1, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S1x32, .f32⟩
  | 56 => ⟨S32x32, .f32⟩
  | 57 => ⟨S32x32, .f32⟩
  | 58 => ⟨S32x32, .f32⟩
  | 59 => ⟨S_, .f32⟩
  | 60 => ⟨S32x32, .f32⟩
  | 61 => ⟨S32x32, .f32⟩
  | 62 => ⟨S32x32, .f32⟩
  | 63 => ⟨S_, .f32⟩
  | 64 => ⟨S32x1, .f32⟩
  | 65 => ⟨S32x1, .i1⟩
  | 66 => ⟨S_, .f32⟩
  | 67 => ⟨S_, .f32⟩
  | 68 => ⟨S_, .f32⟩
  | 69 => ⟨S_, .f32⟩
  | 70 => ⟨S32x1, .f32⟩
  | 71 => ⟨S32x1, .f32⟩
  | 72 => ⟨S32x1, .f32⟩
  | 73 => ⟨S32x1, .f32⟩
  | 74 => ⟨S32x32, .f32⟩
  | 75 => ⟨S32x32, .f32⟩
  | 76 => ⟨S32x32, .f32⟩
  | 77 => ⟨S4x32x32x32x32, .f32⟩
  | 78 => ⟨S4x32x32x32x32, .f32⟩
  | 79 => ⟨S4x32x32x32x32, .f32⟩
  | 80 => ⟨S4x32x32x32x32, .f32⟩
  | 81 => ⟨S4x32x32x32x32, .f32⟩
  | _ => ⟨S4x32x64x64x64, .f32⟩

abbrev hbmTy (i : Nat) : BufTy := match i / 128 with
  | 0 => hbmTy0_0 i
  | 1 => hbmTy0_1 i
  | _ => ⟨S4x32x64x64x64, .f32⟩

abbrev bufTy : (tb : Table) → Fin (tcTables nBuf tb) → BufTy
  | .hbm, ⟨i, _⟩ => hbmTy i
  | _, _ => ⟨S4x32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_cst_5 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_call1_v0 : Ref sig .tc := ⟨.hbm, 59, rfl⟩
abbrev main_call1_v1 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_cst_18 : Ref sig .tc := ⟨.hbm, 87, rfl⟩
abbrev main_v63 : Ref sig .tc := ⟨.hbm, 88, rfl⟩
abbrev main_cst_19 : Ref sig .tc := ⟨.hbm, 89, rfl⟩
abbrev main_v64 : Ref sig .tc := ⟨.hbm, 90, rfl⟩
abbrev main_call2_v0 : Ref sig .tc := ⟨.hbm, 91, rfl⟩
abbrev main_call2_v1 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c : Ref sig .tc := ⟨.hbm, 103, rfl⟩
abbrev main_call3_v0 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_20 : Ref sig .tc := ⟨.hbm, 108, rfl⟩
abbrev main_v78 : Ref sig .tc := ⟨.hbm, 109, rfl⟩
abbrev main_v79 : Ref sig .tc := ⟨.hbm, 110, rfl⟩
abbrev main_cst_21 : Ref sig .tc := ⟨.hbm, 111, rfl⟩
abbrev main_v80 : Ref sig .tc := ⟨.hbm, 112, rfl⟩
abbrev main_v81 : Ref sig .tc := ⟨.hbm, 113, rfl⟩
abbrev main_cst_22 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_23 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_24 : Ref sig .tc := ⟨.hbm, 125, rfl⟩
abbrev main_v91 : Ref sig .tc := ⟨.hbm, 126, rfl⟩
abbrev main_v92 : Ref sig .tc := ⟨.hbm, 127, rfl⟩
abbrev main_cst_25 : Ref sig .tc := ⟨.hbm, 128, rfl⟩
abbrev main_v93 : Ref sig .tc := ⟨.hbm, 129, rfl⟩
abbrev main_cst_26 : Ref sig .tc := ⟨.hbm, 130, rfl⟩
abbrev main_v94 : Ref sig .tc := ⟨.hbm, 131, rfl⟩
abbrev main_call4_v0 : Ref sig .tc := ⟨.hbm, 132, rfl⟩
abbrev main_call4_v1 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_27 : Ref sig .tc := ⟨.hbm, 141, rfl⟩
abbrev main_v102 : Ref sig .tc := ⟨.hbm, 142, rfl⟩
abbrev main_v103 : Ref sig .tc := ⟨.hbm, 143, rfl⟩
abbrev main_cst_28 : Ref sig .tc := ⟨.hbm, 144, rfl⟩
abbrev main_v104 : Ref sig .tc := ⟨.hbm, 145, rfl⟩
abbrev main_v105 : Ref sig .tc := ⟨.hbm, 146, rfl⟩
abbrev main_cst_29 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_30 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_31 : Ref sig .tc := ⟨.hbm, 158, rfl⟩
abbrev main_v115 : Ref sig .tc := ⟨.hbm, 159, rfl⟩
abbrev main_v116 : Ref sig .tc := ⟨.hbm, 160, rfl⟩
abbrev main_cst_32 : Ref sig .tc := ⟨.hbm, 161, rfl⟩
abbrev main_v117 : Ref sig .tc := ⟨.hbm, 162, rfl⟩
abbrev main_cst_33 : Ref sig .tc := ⟨.hbm, 163, rfl⟩
abbrev main_v118 : Ref sig .tc := ⟨.hbm, 164, rfl⟩
abbrev main_call5_v0 : Ref sig .tc := ⟨.hbm, 165, rfl⟩
abbrev main_call5_v1 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_cst_34 : Ref sig .tc := ⟨.hbm, 174, rfl⟩
abbrev main_v126 : Ref sig .tc := ⟨.hbm, 175, rfl⟩
abbrev main_v127 : Ref sig .tc := ⟨.hbm, 176, rfl⟩
abbrev main_cst_35 : Ref sig .tc := ⟨.hbm, 177, rfl⟩
abbrev main_v128 : Ref sig .tc := ⟨.hbm, 178, rfl⟩
abbrev main_v129 : Ref sig .tc := ⟨.hbm, 179, rfl⟩
abbrev main_cst_36 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_37 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_38 : Ref sig .tc := ⟨.hbm, 191, rfl⟩
abbrev main_v139 : Ref sig .tc := ⟨.hbm, 192, rfl⟩
abbrev main_v140 : Ref sig .tc := ⟨.hbm, 193, rfl⟩
abbrev main_cst_39 : Ref sig .tc := ⟨.hbm, 194, rfl⟩
abbrev main_v141 : Ref sig .tc := ⟨.hbm, 195, rfl⟩
abbrev main_cst_40 : Ref sig .tc := ⟨.hbm, 196, rfl⟩
abbrev main_v142 : Ref sig .tc := ⟨.hbm, 197, rfl⟩
abbrev main_call6_v0 : Ref sig .tc := ⟨.hbm, 198, rfl⟩
abbrev main_call6_v1 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩

abbrev nD : Nat := 1
abbrev τ : Topo := Topo.v7x

variable {F : FTy → Type} [FloatOps F]
-- ==== Proof.Separable.lean ====
/- The mathematics of the claim, apart from any program: cutting a cube of data down to its low cosine frequencies and
   transforming back is a product of one small matrix along each of the three axes, in whatever order the axes are taken. -/
module

public import Mathlib.Data.EReal.Operations
public import Mathlib.Algebra.BigOperators.Ring.Finset
public import Mathlib.Algebra.BigOperators.Fin
public import Mathlib.Tactic.Ring

@[expose] public section

noncomputable section

namespace Cert.Pool

open Finset

/-- Sums along two different axes may be taken in either order. -/
theorem swap_axes {α β : Type} [Fintype α] [Fintype β] (f : α → β → ℝ) (u : α → ℝ) (v : β → ℝ) :
    ∑ b, (∑ a, f a b * u a) * v b = ∑ a, (∑ b, f a b * v b) * u a := by
  simp only [sum_mul]
  rw [sum_comm]
  exact sum_congr rfl fun a _ => sum_congr rfl fun b _ => by ring

/-- Along one axis: a forward transform kept to some of its rows, then a backward transform over those rows, is one
    product with the matrix that joins them. -/
theorem join_axis {α κ : Type} [Fintype α] [Fintype κ] (f : α → ℝ) (g : κ → α → ℝ) (e : κ → ℝ) :
    ∑ k, (∑ a, f a * g k a) * e k = ∑ a, f a * ∑ k, e k * g k a := by
  simp only [sum_mul, mul_sum]
  rw [sum_comm]
  exact sum_congr rfl fun a _ => sum_congr rfl fun k _ => by ring

section Cube

variable {α κ ι : Type} [Fintype α] [Fintype κ]

/-- The six sums of the reference — three forward, then three backward — are three sums with the joined matrix. -/
theorem joined_cube (x : α → α → α → ℝ) (g : κ → α → ℝ) (e : κ → ι → ℝ) (i j l : ι) :
    ∑ r, (∑ q, (∑ p, (∑ w, (∑ h, (∑ d, x d h w * g p d) * g q h) * g r w) * e p i) * e q j) * e r l
      = ∑ w, (∑ h, (∑ d, x d h w * ∑ p, e p i * g p d) * ∑ q, e q j * g q h) * ∑ r, e r l * g r w := by
  have first : ∀ q r, ∑ p, (∑ w, (∑ h, (∑ d, x d h w * g p d) * g q h) * g r w) * e p i
      = ∑ w, (∑ h, (∑ d, x d h w * ∑ p, e p i * g p d) * g q h) * g r w := fun q r => by
    rw [swap_axes (fun w p => ∑ h, (∑ d, x d h w * g p d) * g q h) (g r) fun p => e p i]
    refine sum_congr rfl fun w _ => congrArg (· * g r w) ?_
    rw [swap_axes (fun h p => ∑ d, x d h w * g p d) (g q) fun p => e p i]
    exact sum_congr rfl fun h _ => congrArg (· * g q h) (join_axis _ g fun p => e p i)
  have second : ∀ r, ∑ q, (∑ w, (∑ h, (∑ d, x d h w * ∑ p, e p i * g p d) * g q h) * g r w) * e q j
      = ∑ w, (∑ h, (∑ d, x d h w * ∑ p, e p i * g p d) * ∑ q, e q j * g q h) * g r w := fun r => by
    rw [swap_axes (fun w q => ∑ h, (∑ d, x d h w * ∑ p, e p i * g p d) * g q h) (g r) fun q => e q j]
    exact sum_congr rfl fun w _ => congrArg (· * g r w) (join_axis _ g fun q => e q j)
  simp only [first, second]
  exact join_axis _ g fun r => e r l

/-- Three sums with one matrix each: the order in which the axes are taken, last first or first first, is immaterial. -/
theorem axes_reversed (x : α → α → α → ℝ) (u v z : α → ℝ) :
    ∑ w, (∑ h, (∑ d, x d h w * u d) * v h) * z w = ∑ d, u d * ∑ h, (∑ w, x d h w * z w) * v h := by
  have inner : ∀ w, ∑ h, (∑ d, x d h w * u d) * v h = ∑ d, (∑ h, x d h w * v h) * u d := fun w =>
    swap_axes (fun d h => x d h w) u v
  simp only [inner]
  rw [swap_axes (fun d w => ∑ h, x d h w * v h) u z]
  refine sum_congr rfl fun d _ => ?_
  rw [swap_axes (fun h w => x d h w) v z, mul_comm]

end Cube

/-- The value of a finite sum of reals is the same in the extended reals. -/
theorem coe_sum {α : Type} [Fintype α] (f : α → ℝ) : ∑ a, (f a : EReal) = ((∑ a, f a : ℝ) : EReal) :=
  (map_sum (⟨⟨fun r : ℝ => (r : EReal), rfl⟩, fun a b => EReal.coe_add a b⟩ : ℝ →+ EReal) f univ).symm

/-- An extended real that is a real number. -/
def IsReal (y : EReal) : Prop := ∃ r : ℝ, y = (r : EReal)

/-- Over entries that are real numbers, the kernel's order of summation with the joined matrix gives what the reference's
    six sums give. The finiteness is needed: the extended reals do not distribute over infinite terms. -/
theorem kernel_eq_reference {α κ ι : Type} [Fintype α] [Fintype κ] (x : α → α → α → EReal) (g : κ → α → EReal) (e : κ → ι → EReal)
    (hx : ∀ d h w, IsReal (x d h w)) (hg : ∀ k d, IsReal (g k d)) (he : ∀ k i, IsReal (e k i)) (i j l : ι) :
    ∑ d, (∑ p, e p i * g p d) * ∑ h, (∑ w, x d h w * ∑ r, e r l * g r w) * ∑ q, e q j * g q h
      = ∑ r, (∑ q, (∑ p, (∑ w, (∑ h, (∑ d, x d h w * g p d) * g q h) * g r w) * e p i) * e q j) * e r l := by
  choose X hX using hx
  choose G hG using hg
  choose E hE using he
  simp only [hX, hG, hE, ← EReal.coe_mul, coe_sum]
  rw [joined_cube X G E i j l, axes_reversed X]

end Cert.Pool

end
-- ==== Proof.Dct.lean ====
/- The entries of the two cosine matrices, as both programs compute them on extended reals, and that they are real numbers. -/
module

public import proofs.«01_k».proof.Proof.Separable
public import Idealize.ShloMosaic.Lib.Pointwise

@[expose] public section

noncomputable section

namespace Cert.Pool

open Idealize.ShloMosaic

/-- A row or column number as a value: the 32-bit word of `k`, converted. -/
def num (k : ℕ) : EReal := FloatOps.sitofp (F := Ideal) .f32 (BitVec.ofNat 32 k)

/-- The angle of row `k`, column `n`: π (2 n + 1) k over the divisor `q`, π being its binary32 word. -/
def angle (q : BitVec 32) (k n : ℕ) : EReal :=
  Ideal.div (Ideal.ofBits .f32 0x40490FDB#32 * (Ideal.ofBits .f32 0x40000000#32 * num n + 1) * num k) (Ideal.ofBits .f32 q)

open Classical in
/-- The scale of row `k`: the root of `z` in row zero, of `w` in every other row. -/
def scale (z w : BitVec 32) (k : ℕ) : EReal :=
  if num k = 0 then Ideal.sqrt (Ideal.ofBits .f32 z) else Ideal.sqrt (Ideal.ofBits .f32 w)

/-- Row `k`, column `n` of the orthonormal cosine matrix of order 64: divisor 128, scales √(1/64) and √(2/64). -/
def big (k n : ℕ) : EReal := Ideal.cos (angle 0x43000000#32 k n) * scale 0x3C800000#32 0x3D000000#32 k

/-- Row `k`, column `n` of the orthonormal cosine matrix of order 32: divisor 64, scales √(1/32) and √(2/32). -/
def small (k n : ℕ) : EReal := Ideal.cos (angle 0x42800000#32 k n) * scale 0x3D000000#32 0x3D800000#32 k

/-- Row `a`, column `d` of the matrix that joins the two transforms along an axis: the first 32 rows of the large matrix,
    taken back by the small one. -/
def joint (a d : ℕ) : EReal := ∑ k : Fin 32, small k a * big k d

/-- A product of real numbers is one. -/
theorem IsReal.mul {a b : EReal} : IsReal a → IsReal b → IsReal (a * b)
  | ⟨r, hr⟩, ⟨s, hs⟩ => ⟨r * s, by rw [hr, hs, EReal.coe_mul]⟩

/-- A sum of real numbers is one. -/
theorem IsReal.add {a b : EReal} : IsReal a → IsReal b → IsReal (a + b)
  | ⟨r, hr⟩, ⟨s, hs⟩ => ⟨r + s, by rw [hr, hs, EReal.coe_add]⟩

/-- A cosine of a real number is one. -/
theorem IsReal.cos {a : EReal} : IsReal a → IsReal (Ideal.cos a)
  | ⟨r, hr⟩ => ⟨Real.cos r, by rw [hr, Ideal.cos_coe]⟩

/-- A quotient of a real number by one that is not zero is one. -/
theorem IsReal.div {a : EReal} {q : ℝ} (hq : q ≠ 0) : IsReal a → IsReal (Ideal.div a q)
  | ⟨r, hr⟩ => ⟨r * (1 / q), by rw [hr, Ideal.div_coe hq, EReal.coe_mul]⟩

/-- The root of a real number that is not negative is one. -/
theorem isReal_sqrt {r : ℝ} (hr : 0 ≤ r) : IsReal (Ideal.sqrt r) :=
  ⟨Real.sqrt r, by rw [Ideal.sqrt_coe, if_neg (not_lt.mpr hr)]⟩

/-- Row and column numbers are real numbers. -/
theorem isReal_num (k : ℕ) : IsReal (num k) := ⟨((BitVec.ofNat 32 k).toInt : ℝ), rfl⟩

/-- The binary32 word of the number 2. -/
theorem word_two : Ideal.ofBits .f32 0x40000000#32 = ((2 : ℝ) : EReal) := by
  simp [Ideal.ofBits, Ideal.ieee, -EReal.coe_mul]; norm_num

/-- The binary32 word nearest π is a real number. -/
theorem word_pi : IsReal (Ideal.ofBits .f32 0x40490FDB#32) :=
  ⟨_, by simp [Ideal.ofBits, Ideal.ieee, -EReal.coe_mul]; rfl⟩

/-- The binary32 word of the number 64. -/
theorem word_64 : Ideal.ofBits .f32 0x42800000#32 = ((64 : ℝ) : EReal) := by
  simp [Ideal.ofBits, Ideal.ieee, -EReal.coe_mul]; norm_num

/-- The binary32 word of the number 128. -/
theorem word_128 : Ideal.ofBits .f32 0x43000000#32 = ((128 : ℝ) : EReal) := by
  simp [Ideal.ofBits, Ideal.ieee, -EReal.coe_mul]; norm_num

/-- The binary32 word of 1/64. -/
theorem word_64th : Ideal.ofBits .f32 0x3C800000#32 = ((1 / 64 : ℝ) : EReal) := by
  simp [Ideal.ofBits, Ideal.ieee, -EReal.coe_mul]; norm_num

/-- The binary32 word of 1/32. -/
theorem word_32nd : Ideal.ofBits .f32 0x3D000000#32 = ((1 / 32 : ℝ) : EReal) := by
  simp [Ideal.ofBits, Ideal.ieee, -EReal.coe_mul]; norm_num

/-- The binary32 word of 1/16. -/
theorem word_16th : Ideal.ofBits .f32 0x3D800000#32 = ((1 / 16 : ℝ) : EReal) := by
  simp [Ideal.ofBits, Ideal.ieee, -EReal.coe_mul]; norm_num

/-- The angle is a real number when its divisor is one other than zero. -/
theorem isReal_angle {q : BitVec 32} {r : ℝ} (hq : Ideal.ofBits .f32 q = (r : EReal)) (hr : r ≠ 0) (k n : ℕ) : IsReal (angle q k n) := by
  unfold angle
  rw [hq]
  have two : IsReal (Ideal.ofBits .f32 0x40000000#32) := ⟨2, word_two⟩
  have one : IsReal (1 : EReal) := ⟨1, EReal.coe_one.symm⟩
  exact ((word_pi.mul ((two.mul (isReal_num n)).add one)).mul (isReal_num k)).div hr

/-- The scale is a real number when both radicands are real and not negative. -/
theorem isReal_scale {z w : BitVec 32} {r s : ℝ} (hz : Ideal.ofBits .f32 z = (r : EReal)) (hw : Ideal.ofBits .f32 w = (s : EReal))
    (hr : 0 ≤ r) (hs : 0 ≤ s) (k : ℕ) : IsReal (scale z w k) := by
  unfold scale
  rw [hz, hw]
  split_ifs
  exacts [isReal_sqrt hr, isReal_sqrt hs]

/-- Every entry of the large matrix is a real number. -/
theorem isReal_big (k n : ℕ) : IsReal (big k n) :=
  (isReal_angle word_128 (by norm_num) k n).cos.mul (isReal_scale word_64th word_32nd (by norm_num) (by norm_num) k)

/-- Every entry of the small matrix is a real number. -/
theorem isReal_small (k n : ℕ) : IsReal (small k n) :=
  (isReal_angle word_64 (by norm_num) k n).cos.mul (isReal_scale word_32nd word_16th (by norm_num) (by norm_num) k)

/-- The reference at an output place (i, j, l) of one cube `x`: forward along depth, height and width, the rows below 32
    kept, then backward along the same three axes. -/
def sixSums (x : Fin 64 → Fin 64 → Fin 64 → EReal) (i j l : Fin 32) : EReal :=
  ∑ r : Fin 32, (∑ q : Fin 32, (∑ p : Fin 32, (∑ w : Fin 64, (∑ h : Fin 64, (∑ d : Fin 64, x d h w * big p d) * big q h) * big r w)
    * small p i) * small q j) * small r l

/-- The kernel at an output place (i, j, l) of one cube `x`: the joint matrix along width, then height, then depth. -/
def threeSums (x : Fin 64 → Fin 64 → Fin 64 → EReal) (i j l : Fin 32) : EReal :=
  ∑ d : Fin 64, joint i d * ∑ h : Fin 64, (∑ w : Fin 64, x d h w * joint l w) * joint j h

/-- On a cube of real numbers the kernel's three sums are the reference's six. -/
theorem threeSums_eq_sixSums (x : Fin 64 → Fin 64 → Fin 64 → EReal) (hx : ∀ d h w, IsReal (x d h w)) (i j l : Fin 32) :
    threeSums x i j l = sixSums x i j l :=
  kernel_eq_reference x (fun (k : Fin 32) (d : Fin 64) => big k d) (fun (k i : Fin 32) => small k i) hx (fun k d => isReal_big k d)
    (fun k i => isReal_small k i) i j l

end Cert.Pool

end
-- ==== Proof.Finite.lean ====
/- What the precondition gives: every element of the argument is a real number. -/
module

public import proofs.«01_k».proof.Proof.Dct
public import proofs.«01_k».proof.Pre_finite
public import proofs.«01_k».proof.Proof.Gen.Pre_finite
public import Idealize.ShloMosaic.Lib.ReduceAll

@[expose] public section

noncomputable section

namespace Cert.Pool

open Idealize.ShloMosaic Cert.Pre_finite

/-- Where the predicate `finite` came out true, every element of the array is a real number: its size is below the word of
    infinity. -/
theorem isReal_of_finite (x : FVec Ideal S4x32x64x64x64 .f32) (j : S_.Idx) (h : fn (F := Ideal) x j = 1#1) (i : S4x32x64x64x64.Idx) :
    IsReal (x i) := by
  dsimp only [fn] at h
  have : Subsingleton S_.Idx := ⟨fun a b => funext fun d => d.elim0⟩
  have hi := Host.reduce_andi_all _ _ _ _ _ h i
  have word_inf : Ideal.ofBits .f32 0x7F800000#32 = ⊤ := by simp [Ideal.ofBits, Ideal.ieee]
  have lt : Ideal.cmp .olt (max (x i) (-x i)) (Ideal.ofBits .f32 0x7F800000#32) = 1#1 := hi
  rw [word_inf] at lt
  have lt : max (x i) (-x i) < ⊤ := by
    by_contra hn
    simp [Ideal.cmp, hn] at lt
  refine ⟨EReal.toReal (x i), (EReal.coe_toReal (fun e => ?_) fun e => ?_).symm⟩ <;> simp [e] at lt

end Cert.Pool

end
-- ==== Proof.Reference.lean ====
/- The reference's result at an index: three sums forward with the large cosine matrix, three backward with the small one. -/
module

public import proofs.«01_k».proof.Proof.Dct
public import proofs.«01_k».proof.Proof.Gen.ReferenceIdeal.Run
public import Idealize.ShloMosaic.Lib.Pointwise

@[expose] public section

set_option maxRecDepth 16384

noncomputable section

namespace Cert.ReferenceIdeal.Read

open Idealize.ShloMosaic Idealize.ShloMosaic.TcCoe Idealize.SL.Sem Idealize.ShloMosaic.StableHlo
open Cert.ReferenceIdeal Cert.ReferenceIdeal.Gen Cert.ReferenceIdeal.Value Cert.Pool

/-- The large matrix's column of row scales, read at a row. -/
theorem scale_big (k : Fin 64) :
    select (cmpf (F := Ideal) .oeq (broadcastInDim S64x1 ![0] bcast_S64_S64x1_0 (sitofp .f32 (iotaInDim S64 32 0)))
        (broadcastInDim S64x1 ![] bcast_S_S64x1 (constant S_ .f32 0x00000000#32)))
      (broadcastInDim S64x1 ![] bcast_S_S64x1 (Host.sqrt (constant (F := Ideal) S_ .f32 0x3C800000#32)))
      (broadcastInDim S64x1 ![] bcast_S_S64x1 (Host.sqrt (constant (F := Ideal) S_ .f32 0x3D000000#32))) (ix2 k 0)
      = scale 0x3C800000#32 0x3D000000#32 k := by
  unfold select scale num
  pointwise

/-- The small matrix's column of row scales, read at a row. -/
theorem scale_small (k : Fin 32) :
    select (cmpf (F := Ideal) .oeq (broadcastInDim S32x1 ![0] bcast_S32_S32x1_0 (sitofp .f32 (iotaInDim S32 32 0)))
        (broadcastInDim S32x1 ![] bcast_S_S32x1 (constant S_ .f32 0x00000000#32)))
      (broadcastInDim S32x1 ![] bcast_S_S32x1 (Host.sqrt (constant (F := Ideal) S_ .f32 0x3D000000#32)))
      (broadcastInDim S32x1 ![] bcast_S_S32x1 (Host.sqrt (constant (F := Ideal) S_ .f32 0x3D800000#32))) (ix2 k 0)
      = scale 0x3D000000#32 0x3D800000#32 k := by
  unfold select scale num
  pointwise

/-- The result, before the last two backward transforms: at an index, four of the six sums. -/
theorem res_at (V0 : Valuation τ sig (Elt Ideal)) (x : FVec Ideal S4x32x64x64x64 .f32) (hx : V0 (Proc.devRef .tc main_arg0) = x)
    (a : Fin 4) (b i q r : Fin 32) :
    (res_main_v148 V0 : FVec Ideal S4x32x32x32x32 .f32) (ix5 a b q r i)
      = ∑ p : Fin 32, (∑ w : Fin 64, (∑ h : Fin 64, (∑ d : Fin 64, x (ix5 a b d h w) * big p d) * big q h) * big r w) * small p i := by
  pointwise [res_main_v148, res_main_v0, res_main_v1, res_main_v23, res_main_v24, res_main_v46, res_main_v47, res_main_v76, res_main_v77]
  show (_ : EReal) = _
  have fwd : ∀ (k : Fin 64) (n : ℕ) {y z : EReal}, y = z → y * _ = z * big k n := fun k n _ _ e =>
    congrArg₂ (· * ·) e (congrArg (Ideal.cos (angle 0x43000000#32 k n) * ·) (scale_big k))
  have bwd : ∀ (k : Fin 32) (n : ℕ) {y z : EReal}, y = z → y * _ = z * small k n := fun k n _ _ e =>
    congrArg₂ (· * ·) e (congrArg (Ideal.cos (angle 0x42800000#32 k n) * ·) (scale_small k))
  refine Finset.sum_congr rfl fun p _ => bwd p i (Finset.sum_congr rfl fun w _ => fwd ⟨r, by omega⟩ w
    (Finset.sum_congr rfl fun h _ => fwd ⟨q, by omega⟩ h (Finset.sum_congr rfl fun d _ => fwd ⟨p, by omega⟩ d (by rw [hx]))))

/-- The reference's result as a function of its argument. -/
def pooled (x : FVec Ideal S4x32x64x64x64 .f32) : FVec Ideal S4x32x32x32x32 .f32 := fun y =>
  sixSums (fun d h w => x (ix5 (y 0) (y 1) d h w)) (y 2) (y 3) (y 4)

/-- The reference's run: its result is `pooled` of its argument, which is unchanged. -/
theorem run_pooled (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v152) = pooled (m ((c.tc : Thread nD τ).loc main_arg0))
      ∧ r.2.mem ((c.tc : Thread nD τ).loc main_arg0) = m ((c.tc : Thread nD τ).loc main_arg0) := by
  refine (θ_run defs _ _).mono (fun _ hr c => ⟨(hr c).1.trans (funext fun y => ?_), (hr c).2⟩) (Value.run m ρ)
  idx_vars y
  pointwise [pooled, sixSums, res_main_v100, res_main_v101, res_main_v124, res_main_v125]
  show (_ : EReal) = _
  have bwd : ∀ (k : Fin 32) (n : ℕ) {y z : EReal}, y = z → y * _ = z * small k n := fun k n _ _ e =>
    congrArg₂ (· * ·) e (congrArg (Ideal.cos (angle 0x42800000#32 k n) * ·) (scale_small k))
  exact Finset.sum_congr rfl fun r _ => bwd r y4 (Finset.sum_congr rfl fun q _ => bwd q y3
    (res_at (launchContents m c) (m ((c.tc : Thread nD τ).loc main_arg0)) rfl y0 y1 y2 q r))

/-- The reference's frame: it ends, its argument is unchanged, and every counter is zero at the end. -/
theorem quiescent (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0))
      ∧ r.2.sem = fun _ => 0 :=
  (θ_run defs _ _).mono (fun r hr => ⟨fun c => (hr c).2, sem_eq_zero_of_no_sems (by decide) r.2⟩) (Value.run m ρ)

end Cert.ReferenceIdeal.Read

end
-- ==== Proof.Matrix.lean ====
/- The kernel's two matrix operands, as the host lines before its region leave them, read at an index. -/
module

public import proofs.«01_k».proof.Proof.Dct
public import proofs.«01_k».proof.Proof.Gen.KernelIdeal.Frame
public import Idealize.ShloMosaic.Lib.Pointwise
public import Idealize.ShloMosaic.Lib.Claim

@[expose] public section

set_option maxRecDepth 16384

noncomputable section

namespace Cert.KernelIdeal.Read

open Idealize.ShloMosaic Idealize.ShloMosaic.TcCoe Idealize.SL.Sem Idealize.ShloMosaic.StableHlo
open Cert.KernelIdeal Cert.KernelIdeal.Gen Cert.Pool

/-- The large matrix's column of row scales, read at a row. -/
theorem scale_big (k : Fin 64) :
    select (cmpf (F := Ideal) .oeq (broadcastInDim S64x1 ![0] bcast_S64_S64x1_0 (sitofp .f32 (iotaInDim S64 32 0)))
        (broadcastInDim S64x1 ![] bcast_S_S64x1 (constant S_ .f32 0x00000000#32)))
      (broadcastInDim S64x1 ![] bcast_S_S64x1 (Host.sqrt (constant (F := Ideal) S_ .f32 0x3C800000#32)))
      (broadcastInDim S64x1 ![] bcast_S_S64x1 (Host.sqrt (constant (F := Ideal) S_ .f32 0x3D000000#32))) (ix2 k 0)
      = scale 0x3C800000#32 0x3D000000#32 k := by
  unfold select scale num
  pointwise

/-- The small matrix's column of row scales, read at a row. -/
theorem scale_small (k : Fin 32) :
    select (cmpf (F := Ideal) .oeq (broadcastInDim S32x1 ![0] bcast_S32_S32x1_0 (sitofp .f32 (iotaInDim S32 32 0)))
        (broadcastInDim S32x1 ![] bcast_S_S32x1 (constant S_ .f32 0x00000000#32)))
      (broadcastInDim S32x1 ![] bcast_S_S32x1 (Host.sqrt (constant (F := Ideal) S_ .f32 0x3D000000#32)))
      (broadcastInDim S32x1 ![] bcast_S_S32x1 (Host.sqrt (constant (F := Ideal) S_ .f32 0x3D800000#32))) (ix2 k 0)
      = scale 0x3D000000#32 0x3D800000#32 k := by
  unfold select scale num
  pointwise

/-- One product of the sum that joins the matrices: entries of the small and the large one with the same row, the scales
    given by what they are equal to. -/
theorem product (k : Fin 32) (a d : ℕ) {y z : EReal} (hy : y = scale 0x3D000000#32 0x3D800000#32 k)
    (hz : z = scale 0x3C800000#32 0x3D000000#32 k) :
    Ideal.cos (angle 0x42800000#32 k a) * y * (Ideal.cos (angle 0x43000000#32 k d) * z) = small k a * big k d := by
  rw [hy, hz, small, big]

variable (m : (ℓ : Loc nD τ sig) → Buf (Elt Ideal) ℓ) (c : Dev nD)

/-- The first matrix operand, row by row, is the joint matrix. -/
theorem rows_at (a : Fin 32) (d : Fin 64) : (V m c main_v53 : FVec Ideal S32x64 .bf16) (ix2 a d) = joint a d := by
  unfold V V0
  simp only [List.flatten_cons, List.flatten_nil, List.append_nil, StableHlo.after_append]
  unfold hostOps0 hostOps0_1 hostOps0_2 hostOps0_3 hostOps0_4
  after_results
  pointwise [joint]
  show (_ : EReal) = _
  exact Finset.sum_congr rfl fun k _ => product k a d (scale_small k) (scale_big ⟨k, by omega⟩)

/-- The second matrix operand is the joint matrix with its axes exchanged. -/
theorem columns_at (a : Fin 32) (d : Fin 64) : (V m c main_v55 : FVec Ideal S64x32 .bf16) (ix2 d a) = joint a d := by
  unfold V V0
  simp only [List.flatten_cons, List.flatten_nil, List.append_nil, StableHlo.after_append]
  unfold hostOps0 hostOps0_1 hostOps0_2 hostOps0_3 hostOps0_4
  after_results
  pointwise [joint]
  show (_ : EReal) = _
  exact Finset.sum_congr rfl fun k _ => product k a d (scale_small k) (scale_big ⟨k, by omega⟩)

end Cert.KernelIdeal.Read

end
-- ==== Proof.Block.lean ====
/- What the kernel leaves in one output block, read at an index. -/
module

public import proofs.«01_k».proof.Proof.Dct
public import proofs.«01_k».proof.Proof.Gen.KernelIdeal.Frame
public import Idealize.ShloMosaic.Lib.Pipeline.ValueKit

@[expose] public section

set_option maxRecDepth 16384

noncomputable section

namespace Cert.KernelIdeal.Read

open Idealize.ShloMosaic Idealize.ShloMosaic.TcCoe Idealize.SL.Sem
open Cert.KernelIdeal Cert.KernelIdeal.Gen

/-- Width and height of one plane: plane `d` of cube `n` in the block `x0`, the operand `x2` along both axes. -/
def plane (x2 : FVec Ideal S64x32 .bf16) (x0 : FVec Ideal S1x8x64x64x64 .f32) (n : Fin 8) (d : Fin 64) (j l : Fin 32) : EReal :=
  ∑ h : Fin 64, (∑ w : Fin 64, x0 (ix5 0 n d h w) * x2 (ix2 w l)) * x2 (ix2 h j)

/-- The planes of the block's first four cubes, as the kernel lays them out: row `q` is plane `d` of cube `n`, width before
    height. -/
theorem first_planes (x2 : FVec Ideal S64x32 .bf16) (x0 : FVec Ideal S1x8x64x64x64 .f32) (q : Fin 256) (n : Fin 8) (d : Fin 64)
    (l j l' j' : Fin 32) (hq : (q : ℕ) = n * 64 + d) (hl : (l' : ℕ) = l) (hj : (j' : ℕ) = j) :
    k0_pay9 (F := Ideal) x2 x0 (ix3 q l j) = plane x2 x0 n d j' l' := by
  pointwise [k0_pay9, k0_pay7, k0_pay6, k0_pay5, plane]
  blk_point

/-- The planes of the block's last four cubes, laid out the same way. -/
theorem last_planes (x2 : FVec Ideal S64x32 .bf16) (x0 : FVec Ideal S1x8x64x64x64 .f32) (q : Fin 256) (n : Fin 8) (d : Fin 64)
    (l j l' j' : Fin 32) (hq : (q : ℕ) + 256 = n * 64 + d) (hl : (l' : ℕ) = l) (hj : (j' : ℕ) = j) :
    k0_pay15 (F := Ideal) (k0_pay8 x2 x0) (ix3 q l j) = plane x2 x0 n d j' l' := by
  pointwise [k0_pay15, k0_pay8, k0_pay7, k0_pay6, k0_pay5, plane]
  blk_point

/-- The block the kernel leaves, as a function of its three operands' blocks: the operand `x1` along depth over the planes. -/
def cubes (x0 : FVec Ideal S1x8x64x64x64 .f32) (x1 : FVec Ideal S32x64 .bf16) (x2 : FVec Ideal S64x32 .bf16) :
    FVec Ideal S8x32x32x32 .f32 := fun y => ∑ d : Fin 64, x1 (ix2 (y 1) d) * plane x2 x0 (y 0) d (y 2) (y 3)

/-- The body's three loads each take a whole block. -/
theorem loads (x0 : Vec Ideal S1x8x64x64x64 .f32) (x1 : Vec Ideal S32x64 .bf16) (x2 : Vec Ideal S64x32 .bf16) :
    View.ld x0 r0_2 = x0 ∧ View.ld x1 r0_0 = x1 ∧ View.ld x2 r0_1 = x2 := by
  refine ⟨funext fun j => ?_, funext fun j => ?_, funext fun j => ?_⟩ <;> (idx_vars j; pointwise; try blk_ext)

/-- The body's eight stores together leave `cubes` of the operands. -/
theorem block_eq (x0 : FVec Ideal S1x8x64x64x64 .f32) (x1 : FVec Ideal S32x64 .bf16) (x2 : FVec Ideal S64x32 .bf16) (y : S8x32x32x32.Idx) :
    out0_3 (F := Ideal) x0 x1 x2 y = cubes x0 x1 x2 y := by
  obtain ⟨e0, e1, e2⟩ := loads x0 x1 x2
  unfold_out out0_3
  rw [e0, e1, e2]
  canon_tiles x h
  all_goals
    pointwise [k0_pay1, k0_pay2, k0_pay3, k0_pay4, k0_pay10, k0_pay11, k0_pay12, k0_pay13, k0_pay14, k0_pay16, k0_pay17, cubes]
  all_goals
    refine Finset.sum_congr rfl fun d _ => congrArg₂ (· * ·) (congrArg x1 (congrArg (ix2 · d) (Fin.ext h1.symm))) ?_
  case piece0 | piece1 | piece2 | piece3 =>
    exact last_planes x2 x0 _ (y 0) d _ _ _ _ (by dsimp only; omega) h3 h2
  all_goals exact first_planes x2 x0 _ (y 0) d _ _ _ _ (by dsimp only; omega) h3 h2

end Cert.KernelIdeal.Read

end
-- ==== Proof.Value.lean ====
/- The kernel's result: every block written back, the array they make up, and the run through the reshape that follows. -/
module

public import proofs.«01_k».proof.Proof.Matrix
public import proofs.«01_k».proof.Proof.Block

@[expose] public section

set_option maxRecDepth 16384

noncomputable section

namespace Cert.KernelIdeal.Read

open Idealize.ShloMosaic Idealize.ShloMosaic.TcCoe Idealize.SL.Sem
open Idealize.ShloMosaic.Pipeline (Dat)
open Cert.KernelIdeal Cert.KernelIdeal.Gen Cert.Pool

variable (m : (ℓ : Loc nD τ sig) → Buf (Elt Ideal) ℓ)

/-- The array the region writes, as a function of the argument: row `32 a + b` holds the cube of batch `a`, channel `b`. -/
def stacked (x : FVec Ideal S4x32x64x64x64 .f32) : FVec Ideal S128x32x32x32 .f32 := fun y =>
  threeSums (fun d h w => x (ix5 (⟨(y 0 : ℕ) / 32, by have : (y 0 : ℕ) < 128 := (y 0).isLt; omega⟩ : Fin 4)
    (⟨(y 0 : ℕ) % 32, by omega⟩ : Fin 32) d h w)) (y 1) (y 2) (y 3)

/-- Which block of each operand and of the result a grid point names. -/
theorem idx : ∀ t : Fin cfg0.N, win0_0.index t = ![t.val / 4, t.val % 4, 0, 0, 0] ∧ win0_1.index t = ![0, 0] ∧ win0_2.index t = ![0, 0]
    ∧ win0_3.index t = ![t.val, 0, 0, 0] := (by decide +kernel : ∀ t : Fin grid0.N, _)

/-- Every grid point reads the whole of the operand applied from the left. -/
theorem rows_block (c : Dev nD) (t : Fin cfg0.N) (a : Fin 32) (d : Fin 64) :
    (iblk m c 1 t : FVec Ideal S32x64 .bf16) (ix2 a d) = joint a d := by
  rw [← rows_at m c a d]
  blk_ext [iblk, idx t]

/-- Every grid point reads the whole of the operand applied from the right. -/
theorem columns_block (c : Dev nD) (t : Fin cfg0.N) (a : Fin 32) (d : Fin 64) :
    (iblk m c 2 t : FVec Ideal S64x32 .bf16) (ix2 d a) = joint a d := by
  rw [← columns_at m c a d]
  blk_ext [iblk, idx t]

/-- Grid point `t` reads eight cubes of batch `t / 4`, from channel `8 (t % 4)` on. -/
theorem cube_block (c : Dev nD) (t : Fin cfg0.N) (n : Fin 8) (a : Fin 4) (b : Fin 32) (d h w : Fin 64)
    (ha : (a : ℕ) = t.val / 4) (hb : (b : ℕ) = t.val % 4 * 8 + n) :
    (iblk m c 0 t : FVec Ideal S1x8x64x64x64 .f32) (ix5 0 n d h w) = m ((c.tc : Thread nD τ).loc main_arg0) (ix5 a b d h w) := by
  rw [← V_main_arg0 m c]
  blk_ext [iblk, idx t]

/-- What point `t` leaves in the result's buffer is block `t` of `stacked`. -/
theorem point (c : Dev nD) (t : Fin cfg0.N) (y : S8x32x32x32.Idx) (j : S128x32x32x32.Idx)
    (hj0 : (j 0 : ℕ) = t.val * 8 + y 0) (hj1 : (j 1 : ℕ) = y 1) (hj2 : (j 2 : ℕ) = y 2) (hj3 : (j 3 : ℕ) = y 3) :
    out0_3 (F := Ideal) (iblk m c 0 t) (iblk m c 1 t) (iblk m c 2 t) y = stacked (m ((c.tc : Thread nD τ).loc main_arg0)) j := by
  have hn : (y 0 : ℕ) < 8 := (y 0).isLt
  rw [block_eq]
  unfold cubes plane stacked threeSums
  refine Finset.sum_congr rfl fun d _ => congrArg₂ (· * ·) ((rows_block m c t _ d).trans (congrArg (joint · d) hj1.symm))
    (Finset.sum_congr rfl fun h _ => congrArg₂ (· * ·) (Finset.sum_congr rfl fun w _ => congrArg₂ (· * ·) ?_
      ((columns_block m c t _ w).trans (congrArg (joint · w) hj3.symm)))
        ((columns_block m c t _ h).trans (congrArg (joint · h) hj2.symm)))
  exact cube_block m c t (y 0) _ _ d h w (by dsimp only; omega) (by dsimp only; omega)

/-- The region leaves `stacked` of the argument in its output array. -/
theorem final (c : Dev nD) : (dats m 0 c).arrAt 3 cfg0.N = stacked (m ((c.tc : Thread nD τ).loc main_arg0)) := by
  refine (dats m 0 c).arrAt_eq_of_covers 3 _ (by decide +kernel) fun t hf y => ?_
  blk_simp
  rw [after0_3]
  refine point m c t y _ ?_ ?_ ?_ ?_
  all_goals (blk_simp [idx t] <;> try omega)

/-- The program's result as a function of its argument. -/
def pooled (x : FVec Ideal S4x32x64x64x64 .f32) : FVec Ideal S4x32x32x32x32 .f32 := fun y =>
  threeSums (fun d h w => x (ix5 (y 0) (y 1) d h w)) (y 2) (y 3) (y 4)

/-- The reshape after the region only splits the first axis into batch and channel. -/
theorem reshape_stacked (x : FVec Ideal S4x32x64x64x64 .f32) :
    shapeCast S4x32x32x32x32 (stacked x) shapeCasts_S128x32x32x32_S4x32x32x32x32 = pooled x := by
  funext y
  idx_vars y
  pointwise [stacked, pooled]
  congr 1
  funext d h w
  blk_ext

/-- What the line after the region leaves in the result. -/
theorem tail (c : Dev nD) : Pipeline.afterTail₀ cfgs (dats m) 0 (V0 m) [hostOps1] c main_v57
    = pooled (m ((c.tc : Thread nD τ).loc main_arg0)) := by
  rw [← reshape_stacked, ← final m c]
  unfold Pipeline.afterTail₀
  simp only [List.flatten_cons, List.flatten_nil, List.append_nil]
  unfold hostOps1
  after_results
  exact congrArg (fun v => shapeCast S4x32x32x32x32 v shapeCasts_S128x32x32x32_S4x32x32x32x32)
    (Pipeline.withArrays_arr (cfgs 0).spec launch0.win.arr_inj c (V0 m c) (fun w => (dats m 0 c).arrAt w (cfgs 0).N) 3)

/-- The kernel's run: its result is `pooled` of its argument, which is unchanged. -/
theorem run_pooled (ρ : Dev nD → PrngReg) :
    θ_run defs (onTc (τ := τ) (main (F := Ideal))) ⟨m, fun _ => 0, ρ⟩ fun r => ∀ c : Dev nD,
      r.2.mem ((c.tc : Thread nD τ).loc main_v57) = pooled (m ((c.tc : Thread nD τ).loc main_arg0))
      ∧ r.2.mem ((c.tc : Thread nD τ).loc main_arg0) = m ((c.tc : Thread nD τ).loc main_arg0) :=
  θ_run_mono (θ_run_and (run_main m ρ) (unchanged m ρ)) fun r hr c =>
    ⟨((hr.1 c).2 main_v57 (by decide +kernel)).trans (tail m c), hr.2 c⟩

end Cert.KernelIdeal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Finite
public import proofs.«01_k».proof.Proof.Reference
public import proofs.«01_k».proof.Proof.Value
public import Idealize.ShloMosaic.Adequacy
public import Idealize.ShloMosaic.Init

@[expose] public section

noncomputable section

namespace Cert.Proof

open Idealize.ShloMosaic Idealize.SL.Sem Cert.Kernel

/-- On finite arguments the kernel's result, as a function of the argument, is the reference's. -/
theorem pooled_eq (x : FVec Ideal Cert.KernelIdeal.S4x32x64x64x64 .f32) (h : Cert.Pre_finite.fn (F := Ideal) x = fun _ => 1#1) :
    Cert.ReferenceIdeal.Read.pooled x = Cert.KernelIdeal.Read.pooled x :=
  funext fun _ => (Cert.Pool.threeSums_eq_sixSums _ (fun _ _ _ => Cert.Pool.isReal_of_finite x (fun d => d.elim0) (congrFun h _) _) _ _ _).symm

/-- The kernel and the reference, run on the same finite argument, leave the same result. -/
theorem algebraic : Cert.algebraic_KernelIdeal_ReferenceIdeal_pre_finite := fun m g m' g' hpre hagree =>
  ⟨fun c => Cert.KernelIdeal.Read.pooled (m ((c.tc : Thread Cert.KernelIdeal.nD Cert.KernelIdeal.τ).loc Cert.KernelIdeal.main_arg0)),
    Cert.KernelIdeal.Read.run_pooled m g,
    (θ_run _ _ _).mono (fun _ hr c => ⟨(hr c).1.trans ((congrArg _ (hagree c)).trans (pooled_eq _ (hpre c))), (hr c).2⟩)
      (Cert.ReferenceIdeal.Read.run_pooled m' g')⟩

/-- Everything the certificate claims: the three programs' runs, the idealization, and the equality of the results. -/
theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  fun m g _ => Cert.ReferenceIdeal.Read.quiescent m g, fun m g _ => Cert.ReferenceIdeal.Read.quiescent m g, trivial, algebraic⟩

end Cert.Proof

end
